-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_layer_inputs [hPre_layer_inputs : Cert.Pre_layer_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_layer_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layer_inputs [hPre_layer_inputs : Cert.Pre_layer_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layer_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_layer_inputs [hKernelIdeal : Cert.KernelIdeal.Facts] [hPre_layer_inputs : Cert.Pre_layer_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_layer_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_layer_inputs [hReferenceIdeal : Cert.ReferenceIdeal.Facts] [hPre_layer_inputs : Cert.Pre_layer_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layer_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_layer_inputs [hKernelIdeal : Cert.KernelIdeal.Facts] [hReferenceIdeal : Cert.ReferenceIdeal.Facts] [hPre_layer_inputs : Cert.Pre_layer_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_layer_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_layer_inputs : Cert.Pre_layer_inputs.Facts),
    quiescent_Kernel (hKernel := hKernel)
    ∧ quiescent_KernelIdeal (hKernelIdeal := hKernelIdeal)
    ∧ quiescent_KernelIdeal_pre_layer_inputs (hKernelIdeal := hKernelIdeal) (hPre_layer_inputs := hPre_layer_inputs)
    ∧ quiescent_ReferenceIdeal (hReferenceIdeal := hReferenceIdeal)
    ∧ quiescent_ReferenceIdeal_pre_layer_inputs (hReferenceIdeal := hReferenceIdeal) (hPre_layer_inputs := hPre_layer_inputs)
    ∧ preserves_Kernel_KernelIdeal
    ∧ algebraic_KernelIdeal_ReferenceIdeal_pre_layer_inputs (hKernelIdeal := hKernelIdeal) (hReferenceIdeal := hReferenceIdeal) (hPre_layer_inputs := hPre_layer_inputs)
-- ==== Pre_layer_inputs.lean ====
abbrev S4x4096x30 : Shape := ⟨3, ![4, 4096, 30]⟩
abbrev S4x4096 : Shape := ⟨2, ![4, 4096]⟩
abbrev S30x1024 : Shape := ⟨2, ![30, 1024]⟩
abbrev S40000x1024 : Shape := ⟨2, ![40000, 1024]⟩
abbrev S2x1024 : Shape := ⟨2, ![2, 1024]⟩
abbrev S1024 : Shape := ⟨1, ![1024]⟩
abbrev S_ : Shape := ⟨0, ![]⟩
abbrev S4096x1024 : Shape := ⟨2, ![4096, 1024]⟩

class Facts : Prop where
  bcast_S_S4x4096x30 : S_.BroadcastsInDim S4x4096x30 (![] : Fin 0 → Fin S4x4096x30.rank)
  reducesTo_S4x4096x30_S_d0_1_2 : S4x4096x30.ReducesTo [0, 1, 2] S_
  h_S_ : 0 < S_.numel
  bcast_S_S30x1024 : S_.BroadcastsInDim S30x1024 (![] : Fin 0 → Fin S30x1024.rank)
  reducesTo_S30x1024_S_d0_1 : S30x1024.ReducesTo [0, 1] S_
  slices_S40000x1024_S4096x1024_0_0 : S40000x1024.Slices ![0, 0] S4096x1024
  bcast_S_S4096x1024 : S_.BroadcastsInDim S4096x1024 (![] : Fin 0 → Fin S4096x1024.rank)
  reducesTo_S4096x1024_S_d0_1 : S4096x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S4x4096 : S_.BroadcastsInDim S4x4096 (![] : Fin 0 → Fin S4x4096.rank)
  reducesTo_S4x4096_S_d0_1 : S4x4096.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v19 : IVec S_ 1) (main_v25 : IVec S_ 1) (main_v32 : IVec S_ 1) : IVec S_ 1 :=
  let main_v33 : IVec S_ 1 := andi main_v19 main_v25
  let main_v34 : IVec S_ 1 := andi main_v33 main_v32
  main_v34

def fn_part1 {F : FTy → Type} [FloatOps F] (main_arg1 : IVec S4x4096 32) (main_arg5 : FVec F S1024 .f32) (main_arg6 : FVec F S1024 .f32) (main_v14 : IVec S_ 1) (main_v15 : FVec F S2x1024 .f32) (main_v16 : FVec F S2x1024 .f32) : IVec S_ 1 :=
  let main_v17 : IVec S2x1024 1 := cmpf .olt main_v15 main_v16
  let main_c_5 : IVec S_ 1 := constantI S_ 1 1#1
  let main_v18 : IVec S_ 1 := (fun x v => Host.reduce IntOp.andi x v reducesTo_S2x1024_S_d0_1 h_S_) main_v17 main_c_5
  let main_v19 : IVec S_ 1 := andi main_v14 main_v18
  let main_c_6 : IVec S_ 32 := constantI S_ 32 0#32
  let main_v20 : IVec S4x4096 32 := broadcastInDim S4x4096 ![] bcast_S_S4x4096 main_c_6
  let main_v21 : IVec S4x4096 1 := cmpi .eq main_arg1 main_v20
  let main_c_7 : IVec S_ 32 := constantI S_ 32 1#32
  let main_v22 : IVec S4x4096 32 := broadcastInDim S4x4096 ![] bcast_S_S4x4096 main_c_7
  let main_v23 : IVec S4x4096 1 := cmpi .eq main_arg1 main_v22
  let main_v24 : IVec S4x4096 1 := ori main_v21 main_v23
  let main_c_8 : IVec S_ 1 := constantI S_ 1 1#1
  let main_v25 : IVec S_ 1 := (fun x v => Host.reduce IntOp.andi x v reducesTo_S4x4096_S_d0_1 h_S_) main_v24 main_c_8
  let main_cst_9 : FVec F S_ .f32 := constant S_ .f32 0x3F800000#32
  let main_v26 : FVec F S1024 .f32 := broadcastInDim S1024 ![] bcast_S_S1024 main_cst_9
  let main_v27 : IVec S1024 1 := cmpf .oeq main_arg5 main_v26
  let main_c_10 : IVec S_ 1 := constantI S_ 1 1#1
  let main_v28 : IVec S_ 1 := (fun x v => Host.reduce IntOp.andi x v reducesTo_S1024_S_d0 h_S_) main_v27 main_c_10
  let main_cst_11 : FVec F S_ .f32 := constant S_ .f32 0x00000000#32
  let main_v29 : FVec F S1024 .f32 := broadcastInDim S1024 ![] bcast_S_S1024 main_cst_11
  let main_v30 : IVec S1024 1 := cmpf .oeq main_arg6 main_v29
  let main_c_12 : IVec S_ 1 := constantI S_ 1 1#1
  let main_v31 : IVec S_ 1 := (fun x v => Host.reduce IntOp.andi x v reducesTo_S1024_S_d0 h_S_) main_v30 main_c_12
  let main_v32 : IVec S_ 1 := andi main_v28 main_v31
  fn_part2 (F := F) main_v19 main_v25 main_v32

def fn {F : FTy → Type} [FloatOps F] (main_arg0 : FVec F S4x4096x30 .f32) (main_arg1 : IVec S4x4096 32) (main_arg2 : FVec F S30x1024 .f32) (main_arg3 : FVec F S40000x1024 .f32) (main_arg4 : FVec F S2x1024 .f32) (main_arg5 : FVec F S1024 .f32) (main_arg6 : FVec F S1024 .f32) : IVec S_ 1 :=
  let main_v0 : FVec F S4x4096x30 .f32 := Host.absf main_arg0
  let main_cst : FVec F S_ .f32 := constant S_ .f32 0x7F800000#32
  let main_v1 : FVec F S4x4096x30 .f32 := broadcastInDim S4x4096x30 ![] bcast_S_S4x4096x30 main_cst
  let main_v2 : IVec S4x4096x30 1 := cmpf .olt main_v0 main_v1
  let main_c : IVec S_ 1 := constantI S_ 1 1#1
  let main_v3 : IVec S_ 1 := (fun x v => Host.reduce IntOp.andi x v reducesTo_S4x4096x30_S_d0_1_2 h_S_) main_v2 main_c
  let main_v4 : FVec F S30x1024 .f32 := Host.absf main_arg2
  let main_cst_0 : FVec F S_ .f32 := constant S_ .f32 0x7F800000#32
  let main_v5 : FVec F S30x1024 .f32 := broadcastInDim S30x1024 ![] bcast_S_S30x1024 main_cst_0
  let main_v6 : IVec S30x1024 1 := cmpf .olt main_v4 main_v5
  let main_c_1 : IVec S_ 1 := constantI S_ 1 1#1
  let main_v7 : IVec S_ 1 := (fun x v => Host.reduce IntOp.andi x v reducesTo_S30x1024_S_d0_1 h_S_) main_v6 main_c_1
  let main_v8 : IVec S_ 1 := andi main_v3 main_v7
  let main_v9 : FVec F S4096x1024 .f32 := (extractStridedSlice S4096x1024 ![0, 0] · slices_S40000x1024_S4096x1024_0_0) main_arg3
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  let main_v15 : FVec F S2x1024 .f32 := Host.absf main_arg4
  let main_cst_4 : FVec F S_ .f32 := constant S_ .f32 0x7F800000#32
  let main_v16 : FVec F S2x1024 .f32 := broadcastInDim S2x1024 ![] bcast_S_S2x1024 main_cst_4
  fn_part1 (F := F) main_arg1 main_arg5 main_arg6 main_v14 main_v15 main_v16
-- ==== Kernel.lean ====
abbrev S4x4096x30 : Shape := ⟨3, ![4, 4096, 30]⟩
abbrev S4x4096 : Shape := ⟨2, ![4, 4096]⟩
abbrev S30x1024 : Shape := ⟨2, ![30, 1024]⟩
abbrev S40000x1024 : Shape := ⟨2, ![40000, 1024]⟩
abbrev S2x1024 : Shape := ⟨2, ![2, 1024]⟩
abbrev S1024 : Shape := ⟨1, ![1024]⟩
abbrev S4x4096x1 : Shape := ⟨3, ![4, 4096, 1]⟩
abbrev S4x4096x1024 : Shape := ⟨3, ![4, 4096, 1024]⟩
abbrev S1x2048x30 : Shape := ⟨3, ![1, 2048, 30]⟩
abbrev S1x2048x1 : Shape := ⟨3, ![1, 2048, 1]⟩
abbrev S2048x1024 : Shape := ⟨2, ![2048, 1024]⟩
abbrev S1x2048x1024 : Shape := ⟨3, ![1, 2048, 1024]⟩
abbrev S2048x30 : Shape := ⟨2, ![2048, 30]⟩
abbrev S2048x1 : Shape := ⟨2, ![2048, 1]⟩
abbrev S1x1024 : Shape := ⟨2, ![1, 1024]⟩
abbrev S2048 : Shape := ⟨1, ![2048]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x30, .f32⟩
  | .hbm, ⟨1, _⟩ => ⟨S4x4096, .i32⟩
  | .hbm, ⟨2, _⟩ => ⟨S30x1024, .f32⟩
  | .hbm, ⟨3, _⟩ => ⟨S40000x1024, .f32⟩
  | .hbm, ⟨4, _⟩ => ⟨S2x1024, .f32⟩
  | .hbm, ⟨5, _⟩ => ⟨S1024, .f32⟩
  | .hbm, ⟨6, _⟩ => ⟨S1024, .f32⟩
  | .hbm, ⟨7, _⟩ => ⟨S4x4096x1, .i32⟩
  | .hbm, ⟨8, _⟩ => ⟨S4x4096x1024, .f32⟩
  | .local _ .vmem, ⟨0, _⟩ => ⟨S1x2048x30, .f32⟩
  | .local _ .vmem, ⟨1, _⟩ => ⟨S1x2048x30, .f32⟩
  | .local _ .vmem, ⟨2, _⟩ => ⟨S1x2048x1, .i32⟩
  | .local _ .vmem, ⟨3, _⟩ => ⟨S1x2048x1, .i32⟩
  | .local _ .vmem, ⟨4, _⟩ => ⟨S30x1024, .f32⟩
  | .local _ .vmem, ⟨5, _⟩ => ⟨S2048x1024, .f32⟩
  | .local _ .vmem, ⟨6, _⟩ => ⟨S2048x1024, .f32⟩
  | .local _ .vmem, ⟨7, _⟩ => ⟨S2x1024, .f32⟩
  | .local _ .vmem, ⟨8, _⟩ => ⟨S1x2048x1024, .f32⟩
  | .local _ .vmem, ⟨9, _⟩ => ⟨S1x2048x1024, .f32⟩
  | _, _ => ⟨S4x4096x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S30x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x30 : Shape := ⟨3, ![4, 4096, 30]⟩
abbrev S4x4096 : Shape := ⟨2, ![4, 4096]⟩
abbrev S30x1024 : Shape := ⟨2, ![30, 1024]⟩
abbrev S40000x1024 : Shape := ⟨2, ![40000, 1024]⟩
abbrev S2x1024 : Shape := ⟨2, ![2, 1024]⟩
abbrev S1024 : Shape := ⟨1, ![1024]⟩
abbrev S4096 : Shape := ⟨1, ![4096]⟩
abbrev S4x4096x1024 : Shape := ⟨3, ![4, 4096, 1024]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1024 : Shape := ⟨2, ![4096, 1024]⟩
abbrev S1x4096x1024 : Shape := ⟨3, ![1, 4096, 1024]⟩
abbrev S4x4096x1 : Shape := ⟨3, ![4, 4096, 1]⟩
abbrev S1x1x1 : Shape := ⟨3, ![1, 1, 1]⟩
abbrev S1x1x1024 : Shape := ⟨3, ![1, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x30, .f32⟩
  | .hbm, ⟨1, _⟩ => ⟨S4x4096, .i32⟩
  | .hbm, ⟨2, _⟩ => ⟨S30x1024, .f32⟩
  | .hbm, ⟨3, _⟩ => ⟨S40000x1024, .f32⟩
  | .hbm, ⟨4, _⟩ => ⟨S2x1024, .f32⟩
  | .hbm, ⟨5, _⟩ => ⟨S1024, .f32⟩
  | .hbm, ⟨6, _⟩ => ⟨S1024, .f32⟩
  | .hbm, ⟨7, _⟩ => ⟨S4096, .i32⟩
  | .hbm, ⟨8, _⟩ => ⟨S4x4096x1024, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S1x1, .i32⟩
  | .hbm, ⟨22, _⟩ => ⟨S4096x1, .i32⟩
  | .hbm, ⟨23, _⟩ => ⟨S4096x1, .i1⟩
  | .hbm, ⟨24, _⟩ => ⟨S4096x1, .i1⟩
  | .hbm, ⟨25, _⟩ => ⟨S_, .i1⟩
  | .hbm, ⟨26, _⟩ => ⟨S4096, .i1⟩
  | .hbm, ⟨27, _⟩ => ⟨S4096x1024, .f32⟩
  | .hbm, ⟨28, _⟩ => ⟨S4096x1024, .i1⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S1x4096x1024, .f32⟩
  | .hbm, ⟨33, _⟩ => ⟨S_, .i32⟩
  | .hbm, ⟨34, _⟩ => ⟨S4x4096, .i32⟩
  | .hbm, ⟨35, _⟩ => ⟨S4x4096, .i1⟩
  | .hbm, ⟨36, _⟩ => ⟨S_, .i32⟩
  | .hbm, ⟨37, _⟩ => ⟨S4x4096, .i32⟩
  | .hbm, ⟨38, _⟩ => ⟨S4x4096, .i32⟩
  | .hbm, ⟨39, _⟩ => ⟨S4x4096, .i32⟩
  | .hbm, ⟨40, _⟩ => ⟨S4x4096x1, .i32⟩
  | .hbm, ⟨41, _⟩ => ⟨S1, .i32⟩
  | .hbm, ⟨42, _⟩ => ⟨S_, .i32⟩
  | .hbm, ⟨43, _⟩ => ⟨S4x4096x1, .i32⟩
  | .hbm, ⟨44, _⟩ => ⟨S4x4096x1, .i1⟩
  | .hbm, ⟨45, _⟩ => ⟨S1x1x1, .i32⟩
  | .hbm, ⟨46, _⟩ => ⟨S4x4096x1, .i32⟩
  | .hbm, ⟨47, _⟩ => ⟨S4x4096x1, .i1⟩
  | .hbm, ⟨48, _⟩ => ⟨S4x4096x1, .i1⟩
  | .hbm, ⟨49, _⟩ => ⟨S_, .i1⟩
  | .hbm, ⟨50, _⟩ => ⟨S4x4096, .i1⟩
  | .hbm, ⟨51, _⟩ => ⟨S4x4096x1024, .f32⟩
  | .hbm, ⟨52, _⟩ => ⟨S4x4096x1024, .i1⟩
  | .hbm, ⟨53, _⟩ => ⟨S_, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1024, .f32⟩
  | .hbm, ⟨75, _⟩ => ⟨S4x4096x1024, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S4x4096x1, .f32⟩
  | .hbm, ⟨80, _⟩ => ⟨S4x4096x1024, .f32⟩
  | .hbm, ⟨81, _⟩ => ⟨S4x4096x1024, .f32⟩
  | .hbm, ⟨82, _⟩ => ⟨S1x1x1024, .f32⟩
  | .hbm, ⟨83, _⟩ => ⟨S4x4096x1024, .f32⟩
  | .hbm, ⟨84, _⟩ => ⟨S4x4096x1024, .f32⟩
  | .hbm, ⟨85, _⟩ => ⟨S1x1x1024, .f32⟩
  | .hbm, ⟨86, _⟩ => ⟨S4x4096x1024, .f32⟩
  | .hbm, ⟨87, _⟩ => ⟨S4x4096x1024, .f32⟩
  | _, _ => ⟨S4x4096x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst : Ref sig .tc := ⟨.hbm, 59, rfl⟩
abbrev main_v8 : Ref sig .tc := ⟨.hbm, 60, rfl⟩
abbrev main_v9 : Ref sig .tc := ⟨.hbm, 61, rfl⟩
abbrev main_cst_0 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_cst_1 : Ref sig .tc := ⟨.hbm, 68, rfl⟩
abbrev main_v15 : Ref sig .tc := ⟨.hbm, 69, rfl⟩
abbrev main_v16 : Ref sig .tc := ⟨.hbm, 70, rfl⟩
abbrev main_cst_2 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_cst_3 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩

abbrev nD : Nat := 1
abbrev τ : Topo := Topo.v7x

variable {F : FTy → Type} [FloatOps F]
-- ==== Proof.Consts.lean ====
/- The float constants the kernel and the reference write, as the extended reals their patterns denote. -/
module

public import Idealize.ShloMosaic.PureOps.Ideal

@[expose] public section

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `9.765625E-4`, the factor by which the kernel averages a row, denotes exactly `1 / 1024`. -/
theorem ofBits_inv_1024 : Ideal.ofBits .f32 0x3A800000#32 = (((1 : ℝ) / 1024 : ℝ) : EReal) := by
  simp [Ideal.ofBits, Ideal.ieee, -EReal.coe_mul]; norm_num

/-- `1024.0`, by which the reference divides a row's sum, denotes `1024`. -/
theorem ofBits_1024 : Ideal.ofBits .f32 0x44800000#32 = ((1024 : ℝ) : EReal) := by
  simp [Ideal.ofBits, Ideal.ieee, -EReal.coe_mul]; norm_num

/-- The constant added to the variance (the float nearest to `1e-12`) denotes some positive real. -/
theorem ofBits_eps : ∃ e : ℝ, 0 < e ∧ Ideal.ofBits .f32 0x2B8CBCCC#32 = (e : EReal) := by
  refine ⟨_, ?_, by simp [Ideal.ofBits, Ideal.ieee, -EReal.coe_mul]; rfl⟩
  positivity

/-- The pattern of `+∞` denotes `⊤`. -/
theorem ofBits_inf : Ideal.ofBits .f32 0x7F800000#32 = ⊤ := by
  simp [Ideal.ofBits, Ideal.ieee]

end Cert.Consts

end
-- ==== Proof.LayerNorm.lean ====
/- Normalising a row of 1024 real numbers in two ways: by the mean of the squares less the square of the mean (what the
   kernel does) and by the mean of the squared distances from the mean (what the reference does). -/
module

public import proofs.«01_k».proof.Proof.Consts

@[expose] public section

noncomputable section

namespace Cert.LayerNorm

open Idealize.ShloMosaic
open scoped BigOperators

/-- The sum of finitely many reals is the same sum taken among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The mean of the squares less the square of the mean is the mean of the squared distances from the mean. -/
theorem variance_eq (r : Fin 1024 → ℝ) :
    (∑ k, r k * r k) * (1 / 1024) - (∑ k, r k) * (1 / 1024) * ((∑ k, r k) * (1 / 1024))
      = (∑ k, (r k - (∑ k, r k) * (1 / 1024)) * (r k - (∑ k, r k) * (1 / 1024))) * (1 / 1024) := by
  generalize hS : ∑ k, r k = S
  have h : ∀ k, (r k - S * (1 / 1024)) * (r k - S * (1 / 1024))
      = r k * r k - 2 * (S * (1 / 1024)) * r k + S * (1 / 1024) * (S * (1 / 1024)) := fun k => by ring
  simp only [h, Finset.sum_add_distrib, Finset.sum_sub_distrib, ← Finset.mul_sum, hS, Finset.sum_const, Finset.card_univ,
    Fintype.card_fin, nsmul_eq_mul]
  push_cast
  ring

/-- The reciprocal square root of a positive real. -/
theorem rsqrt_pos {a : ℝ} (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr ha.le), if_neg ha.ne']

/-- The square root of a positive real. -/
theorem sqrt_pos {a : ℝ} (ha : 0 < a) : Ideal.sqrt (a : EReal) = ((Real.sqrt a : ℝ) : EReal) := by
  show (if a < 0 then (⊥ : EReal) else ((Real.sqrt a : ℝ) : EReal)) = _
  rw [if_neg (not_lt.mpr ha.le)]

/-- A row of the summed embeddings: a token's 30 features `a` projected by `w`, plus its position's row `p`, plus its
    type's row `q`. -/
def row (a : Fin 30 → EReal) (w : Fin 30 → Fin 1024 → EReal) (p q : Fin 1024 → EReal) : Fin 1024 → EReal :=
  fun h => (∑ k, a k * w k h) + p h + q h

/-- A product of two reals is a real. -/
theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- A sum of two reals is a real. -/
theorem real_add {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

/-- Such a row consists of reals when everything it is made of is real. -/
theorem real_row {a : Fin 30 → EReal} {w : Fin 30 → Fin 1024 → EReal} {p q : Fin 1024 → EReal}
    (ha : ∀ k, ∃ r : ℝ, a k = (r : EReal)) (hw : ∀ k h, ∃ r : ℝ, w k h = (r : EReal)) (hp : ∀ h, ∃ r : ℝ, p h = (r : EReal))
    (hq : ∀ h, ∃ r : ℝ, q h = (r : EReal)) (h : Fin 1024) : ∃ r : ℝ, row a w p q h = (r : EReal) := by
  choose f hf using fun k => real_mul (ha k) (hw k h)
  exact real_add (real_add ⟨∑ k, f k, by rw [coe_sum]; exact Finset.sum_congr rfl fun k _ => hf k⟩ (hp h)) (hq h)

/-- What the kernel makes of entry `j` of a row `x`. -/
def onePass (x : Fin 1024 → EReal) (j : Fin 1024) : EReal :=
  (x j - (∑ k, x k) * Ideal.ofBits .f32 0x3A800000#32)
    * Ideal.rsqrt ((∑ k, x k * x k) * Ideal.ofBits .f32 0x3A800000#32
        - (∑ k, x k) * Ideal.ofBits .f32 0x3A800000#32 * ((∑ k, x k) * Ideal.ofBits .f32 0x3A800000#32)
        + Ideal.ofBits .f32 0x2B8CBCCC#32)

/-- What the reference makes of it, before the scale and the shift. -/
def twoPass (x : Fin 1024 → EReal) (j : Fin 1024) : EReal :=
  Ideal.div (x j - Ideal.div (∑ k, x k) (Ideal.ofBits .f32 0x44800000#32))
    (Ideal.sqrt (Ideal.div (∑ k, (x k - Ideal.div (∑ k, x k) (Ideal.ofBits .f32 0x44800000#32))
        * (x k - Ideal.div (∑ k, x k) (Ideal.ofBits .f32 0x44800000#32))) (Ideal.ofBits .f32 0x44800000#32)
      + Ideal.ofBits .f32 0x2B8CBCCC#32))

/-- On a row of real numbers the two agree. -/
theorem onePass_eq_twoPass (x : Fin 1024 → EReal) (hx : ∀ k, ∃ r : ℝ, x k = (r : EReal)) (j : Fin 1024) :
    onePass x j = twoPass x j := by
  choose r hr using hx
  obtain rfl : x = fun k => (r k : EReal) := funext hr
  obtain ⟨e, he, hc⟩ := Consts.ofBits_eps
  have hn : (1024 : ℝ) ≠ 0 := by norm_num
  unfold onePass twoPass
  rw [Consts.ofBits_inv_1024, Consts.ofBits_1024, hc]
  simp only [← coe_sum, ← EReal.coe_mul, ← EReal.coe_sub, ← EReal.coe_add, Ideal.div_coe hn]
  rw [variance_eq]
  generalize hv : (∑ k, (r k - (∑ k, r k) * (1 / 1024)) * (r k - (∑ k, r k) * (1 / 1024))) * (1 / 1024) = v
  have hv0 : 0 ≤ v := by
    rw [← hv]
    exact mul_nonneg (Finset.sum_nonneg fun k _ => mul_self_nonneg _) (by norm_num)
  have hp : 0 < v + e := by linarith
  have hs : Real.sqrt (v + e) ≠ 0 := (Real.sqrt_pos.mpr hp).ne'
  rw [rsqrt_pos hp, sqrt_pos hp, Ideal.div_coe hs, one_div (Real.sqrt _), ← EReal.coe_mul]

end Cert.LayerNorm

end
-- ==== Proof.Block.lean ====
/- What the kernel's body stores at an index of its block, from the blocks it has read. -/
module

public import proofs.«01_k».proof.Proof.Gen.KernelIdeal.Skeleton
public import proofs.«01_k».proof.Proof.LayerNorm
public import Idealize.ShloMosaic.Lib.Pointwise

@[expose] public section

set_option maxRecDepth 16384

noncomputable section

namespace Cert.KernelIdeal.Block

open Cert.KernelIdeal Cert.KernelIdeal.Gen Cert.LayerNorm Idealize.ShloMosaic Idealize.SL.Sem
open scoped BigOperators

variable (v0 : Vec Ideal S1x2048x30 .f32) (v2 : Vec Ideal S1x2048x1 .i32) (v6 v7 : Vec Ideal S1x1024 .f32)
  (v15 : Vec Ideal S30x1024 .f32) (v17 : Vec Ideal S2048x1024 .f32)

/-- The row of summed embeddings that the body forms for token `s` of its block. -/
def blockRow (s : Fin 2048) : Fin 1024 → EReal :=
  row (fun k => v0 (ix3 0 s k)) (fun k h => v15 (ix2 k h)) (fun h => v17 (ix2 s h))
    (fun h => Scalar.select (IntOp.cmpi .eq (v2 (ix3 0 s 0)) 1#32) (v6 (ix2 0 h)) (v7 (ix2 0 h)))

/-- The body's summed embeddings, read at an index. -/
theorem sum_apply (s : Fin 2048) (h : Fin 1024) :
    k0_pay2 v0 v2 v6 v7 v15 v17 (ix2 s h) = blockRow v0 v2 v6 v7 v15 v17 s h := by
  unfold blockRow row
  pointwise [k0_pay2]

/-- What the body stores, read at an index: the token's row normalised in one pass. -/
theorem stored_apply (s : Fin 2048) (h : Fin 1024) :
    k0_pay1 (k0_pay4 v0 v2 v6 v7 v15 v17) (k0_pay5 v0 v2 v6 v7 v15 v17) (ix3 0 s h)
      = onePass (blockRow v0 v2 v6 v7 v15 v17 s) h := by
  unfold onePass
  simp only [← sum_apply]
  pointwise [k0_pay1, k0_pay4, k0_pay5, k0_pay3]

end Cert.KernelIdeal.Block

end
-- ==== Proof.Array.lean ====
/- The kernel's result array after its run: every token's row of summed embeddings, normalised in one pass. -/
module

public import proofs.«01_k».proof.Proof.Gen.KernelIdeal.Value
public import proofs.«01_k».proof.Proof.Block
public import Idealize.ShloMosaic.Lib.Pipeline.ValueKit

@[expose] public section

set_option maxRecDepth 16384

noncomputable section

namespace Cert.KernelIdeal.Array

open Cert.KernelIdeal Cert.KernelIdeal.Gen Cert.LayerNorm Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The row of summed embeddings of token `s` of sequence `b`, from the argument arrays. -/
def tokenRow (b : Fin 4) (s : Fin 4096) : Fin 1024 → EReal :=
  row (fun k => m ((c : Thread nD τ).loc main_arg0) (ix3 b s k)) (fun k h => m ((c : Thread nD τ).loc main_arg2) (ix2 k h))
    (fun h => m ((c : Thread nD τ).loc main_arg3) (ix2 ⟨s.val, by omega⟩ h))
    (fun h => Scalar.select (IntOp.cmpi .eq (m ((c : Thread nD τ).loc main_arg1) (ix2 b s)) 1#32)
      (m ((c : Thread nD τ).loc main_arg4) (ix2 1 h)) (m ((c : Thread nD τ).loc main_arg4) (ix2 0 h)))

/-- Which block of each array grid point `t` works on. -/
theorem indices : ∀ t : Fin grid0.N,
    win0_0.index t = ![(grid0.coords t 1).val, (grid0.coords t 0).val, 0]
      ∧ win0_1.index t = ![(grid0.coords t 1).val, (grid0.coords t 0).val, 0]
      ∧ win0_2.index t = ![0, 0]
      ∧ win0_3.index t = ![(grid0.coords t 0).val, 0]
      ∧ win0_4.index t = ![0, 0]
      ∧ win0_5.index t = ![(grid0.coords t 1).val, (grid0.coords t 0).val, 0] := by decide +kernel

section Reads

variable (t : Fin cfg0.N) (b : Fin 4) (q : Fin 4096) (s : Fin 2048)
  (hb : b.val = (grid0.coords t 1).val) (hq : q.val = (grid0.coords t 0).val * 2048 + s.val)
include hb hq

/-- Window 0's block holds the features of the tokens of the block. -/
theorem read0 (k : Fin 30) : iblk m c 0 t (ix3 0 s k) = m ((c : Thread nD τ).loc main_arg0) (ix3 b q k) := by
  obtain ⟨e, -⟩ := indices t
  blk_ext [iblk, V_main_arg0, e]

omit hb hq in
/-- The region finds in window 1's array the types, each under a unit axis. -/
theorem types (b : Fin 4) (q : Fin 4096) : V m c main_call0_v0 (ix3 b q 0) = m ((c : Thread nD τ).loc main_arg1) (ix2 b q) := by
  entry_read
  pointwise

/-- Window 1's block holds their types. -/
theorem read1 : iblk m c 1 t (ix3 0 s 0) = m ((c : Thread nD τ).loc main_arg1) (ix2 b q) := by
  obtain ⟨-, e, -⟩ := indices t
  rw [← types m c b q]
  blk_ext [iblk, e]

/-- Window 2's block is the whole projection. -/
theorem read2 (k : Fin 30) (h : Fin 1024) : iblk m c 2 t (ix2 k h) = m ((c : Thread nD τ).loc main_arg2) (ix2 k h) := by
  obtain ⟨-, -, e, -⟩ := indices t
  blk_ext [iblk, V_main_arg2, e]

/-- Window 3's block holds the rows of the tokens' positions. -/
theorem read3 (h : Fin 1024) : X0_3 m c t (ix2 s h) = m ((c : Thread nD τ).loc main_arg3) (ix2 ⟨q.val, by omega⟩ h) := by
  obtain ⟨-, -, -, e, -⟩ := indices t
  unfold X0_3 Pipeline.Window.fill
  rw [dif_pos (moved0_3 t _)]
  blk_ext [iblk, V_main_arg3, e]

/-- Window 4's block is the whole table of types: its row 1, -/
theorem read4_one (h : Fin 1024) :
    View.ld (iblk m c 4 t) (Rect.unit ![1, 0] ![1, 1024] inb_S2x1024_S1x1024_1_0) (ix2 0 h)
      = m ((c : Thread nD τ).loc main_arg4) (ix2 1 h) := by
  obtain ⟨-, -, -, -, e, -⟩ := indices t
  rw [View.ld_apply]
  blk_ext [iblk, V_main_arg4, e, Rect.idx_unit_val]

/-- and its row 0. -/
theorem read4_zero (h : Fin 1024) :
    View.ld (iblk m c 4 t) (Rect.unit ![0, 0] ![1, 1024] inb_S2x1024_S1x1024_0_0) (ix2 0 h)
      = m ((c : Thread nD τ).loc main_arg4) (ix2 0 h) := by
  obtain ⟨-, -, -, -, e, -⟩ := indices t
  rw [View.ld_apply]
  blk_ext [iblk, V_main_arg4, e, Rect.idx_unit_val]

/-- What the body stores for token `s` of the block: that token's row, normalised. -/
theorem stored (h : Fin 1024) :
    k0_pay1
      (k0_pay4 (iblk m c 0 t) (iblk m c 1 t)
        (View.ld (iblk m c 4 t) (Rect.unit ![1, 0] ![1, 1024] inb_S2x1024_S1x1024_1_0))
        (View.ld (iblk m c 4 t) (Rect.unit ![0, 0] ![1, 1024] inb_S2x1024_S1x1024_0_0)) (iblk m c 2 t) (X0_3 m c t))
      (k0_pay5 (iblk m c 0 t) (iblk m c 1 t)
        (View.ld (iblk m c 4 t) (Rect.unit ![1, 0] ![1, 1024] inb_S2x1024_S1x1024_1_0))
        (View.ld (iblk m c 4 t) (Rect.unit ![0, 0] ![1, 1024] inb_S2x1024_S1x1024_0_0)) (iblk m c 2 t) (X0_3 m c t))
      (ix3 0 s h) = onePass (tokenRow m c b q) h := by
  refine (Block.stored_apply _ _ _ _ _ _ s h).trans (congrArg (fun x => onePass x h) ?_)
  funext k
  unfold Block.blockRow tokenRow row
  refine congrArg₂ (· + ·) (congrArg₂ (· + ·) (Finset.sum_congr rfl fun j _ => congrArg₂ (· * ·) ?_ ?_) ?_) ?_
  · exact read0 m c t b q s hb hq j
  · exact read2 m c t b q s hb hq j k
  · exact read3 m c t b q s hb hq k
  · beta_reduce
    rw [read4_one m c t b q s hb hq k, read4_zero m c t b q s hb hq k]
    exact congrArg (fun w => Scalar.select (IntOp.cmpi .eq w 1#32) _ _) (read1 m c t b q s hb hq)

end Reads

/-- The result array. -/
theorem result : (dats m 0 c).arrAt 5 cfg0.N = fun i : S4x4096x1024.Idx => onePass (tokenRow m c (i 0) (i 1)) (i 2) := by
  refine (dats m 0 c).arrAt_eq_of_covers 5 _ (by decide +kernel) fun t hf y => ?_
  blk_simp
  rw [after0_5]
  unfold outsAt0
  frame_out
  have e := (indices t).2.2.2.2.2
  have hy : y = (ix3 0 (y 1) (y 2) : S1x2048x1024.Idx) := by blk_ext
  have h0 : (((cfg0.win 5).blk t).view.emb y 0 : ℕ) = (grid0.coords t 1).val := by blk_simp [e]
  have h1 : (((cfg0.win 5).blk t).view.emb y 1 : ℕ) = (grid0.coords t 0).val * 2048 + (y 1).val := by blk_simp [e]
  have h2 : ((cfg0.win 5).blk t).view.emb y 2 = y 2 := Fin.ext (by blk_simp [e])
  refine (congrArg _ hy).trans ((stored m c t _ _ (y 1) h0 h1 (y 2)).trans ?_)
  exact congrArg _ h2.symm

end Cert.KernelIdeal.Array

end
-- ==== Proof.Lookup.lean ====
/- The reference's two look-ups, read at an index: the positions are always in range, and the types are where each
   of them is 0 or 1. -/
module

public import proofs.«01_k».proof.Proof.Gen.ReferenceIdeal.Read
public import Idealize.ShloMosaic.Lib.Routing.Ops
public import Idealize.ShloMosaic.Lib.ReduceAll
public import Idealize.ShloMosaic.Lib.StableHlo.Predicate

@[expose] public section

noncomputable section

namespace Cert.ReferenceIdeal.Lookup

open Cert.ReferenceIdeal Cert.ReferenceIdeal.Gen Cert.ReferenceIdeal.Read Idealize.ShloMosaic Idealize.ShloMosaic.ValueIdx
open Idealize.ShloMosaic.StableHlo.Predicate (toInt_ofNat_small slt_iff_toNat sle_iff_toNat sge_iff_toNat)

/-! ## Positions -/

/-- A number below 4096, as a word, is that number. -/
theorem toNat_small {n : ℕ} (h : n < 4096) : (BitVec.ofNat 32 n).toNat = n := by
  rw [BitVec.toNat_ofNat]
  omega

/-- The word by which row `i` of the positions is looked up is `i` itself. -/
theorem position_word (i : S4096x1.Idx) : val_main_call0_v5 (F := Ideal) i = BitVec.ofNat 32 (i 0).val := by
  have hi : (i 0).val < 4096 := (i 0).isLt
  have hn : IntOp.cmpi .slt (BitVec.ofNat 32 (i 0).val) 0#32 = 0#1 :=
    eq_zero_of_ne_one fun e => by
      rw [slt_iff_toNat (by rw [toNat_small hi]; omega) (by decide)] at e
      exact absurd e (Nat.not_lt_zero _)
  rw [val_main_call0_v5_apply, val_main_call0_v4_apply, val_main_call0_v1_apply, val_main_v0_apply, val_main_call0_v0_apply,
    val_main_call0_c_apply]
  show Scalar.select (IntOp.cmpi .slt (BitVec.ofNat 32 (i 0).val) 0#32) _ (BitVec.ofNat 32 (i 0).val) = _
  rw [hn, select_zero]

/-- Every position is found in range. -/
theorem position_mask (i : S4096x1.Idx) : val_main_call0_v11 (F := Ideal) i = 1#1 := by
  have hi : (i 0).val < 4096 := (i 0).isLt
  have hs : (BitVec.ofNat 32 (i 0).val).toNat < 2 ^ 31 := by rw [toNat_small hi]; omega
  rw [val_main_call0_v11_apply, val_main_call0_v7_apply, val_main_call0_v10_apply, position_word, val_main_call0_v6_apply,
    val_main_call0_c_2_apply, val_main_call0_v9_apply, val_main_call0_v8_apply, val_main_call0_c_1_apply,
    (sge_iff_toNat hs (by decide)).2 (Nat.zero_le _),
    (sle_iff_toNat hs (by decide)).2 (by rw [toNat_small hi]; show _ ≤ 39999; omega)]
  rfl

/-- So row `s` of the looked-up positions is row `s` of the table. -/
theorem position_row (x3 : (⟨S40000x1024, .f32⟩ : BufTy).Contents (Elt Ideal)) (s : Fin 4096) (h : Fin 1024) :
    val_main_v2 (F := Ideal) x3 (ix2 s h) = x3 (ix2 ⟨s.val, by omega⟩ h) := by
  have hm : val_main_call0_v12 (F := Ideal) (idx_main_call0_v14 (ix2 s h)) = 1#1 :=
    Host.reduce_andi_one _ _ _ _ _ rfl position_mask
  rw [val_main_v2_apply, val_main_call0_v14_apply, hm, select_one]
  exact Routing.gather_row _ rfl rfl rfl rfl rfl x3 _ s h ⟨s.val, by omega⟩ (position_word _) (by decide)

/-! ## Types -/

/-- `table[idx]` over the rows of the table of types, under two batch axes: where `idx` holds row number `r` at
    `(b, s)`, entry `(b, s, h)` of the result is the table's entry `(r, h)`. -/
theorem gather_types {α : Type} (x : S2x1024.Idx → α) (idx : IVec S4x4096x1 32) (b : Fin 4) (s : Fin 4096) (h : Fin 1024)
    (r : Fin 2) (hr : idx (ix3 b s 0) = BitVec.ofNat 32 r.val) :
    Host.gather gather_S2x1024_S4x4096x1_S4x4096x1024_2_0_n_n_0_2_11024 x idx (ix3 b s h) = x (ix2 r h) := by
  unfold Host.gather
  refine congrArg x (funext fun a => Fin.ext ?_)
  match a with
  | ⟨0, _⟩ =>
    show GatherDims.start _ (ix3 b s h) idx 0 + GatherDims.batchCoord _ (ix3 b s h) 0 + GatherDims.offCoord _ (ix3 b s h) 0 = r.val
    rw [GatherDims.batchCoord_eq_zero _ _ _ List.not_mem_nil, GatherDims.offCoord_eq_zero _ _ _ (by decide)]
    unfold GatherDims.start
    rw [dif_pos (by decide)]
    have hsi : ∀ k, GatherDims.siIdx gather_S2x1024_S4x4096x1_S4x4096x1024_2_0_n_n_0_2_11024 (ix3 b s h) k = ix3 b s 0 := fun k => by
      have hk : k.val < 1 := k.isLt
      refine funext fun c => Fin.ext ?_
      match c with
      | ⟨0, _⟩ => rfl
      | ⟨1, _⟩ => rfl
      | ⟨2, _⟩ => show k.val = 0; omega
    rw [hsi, hr, toInt_ofNat_small _ (by omega)]
    show min ((r.val : ℤ)).toNat (2 - 1) + 0 + 0 = r.val
    omega
  | ⟨1, _⟩ =>
    show GatherDims.start _ (ix3 b s h) idx 1 + GatherDims.batchCoord _ (ix3 b s h) 1 + GatherDims.offCoord _ (ix3 b s h) 1 = h.val
    rw [GatherDims.batchCoord_eq_zero _ _ _ List.not_mem_nil]
    unfold GatherDims.start GatherDims.offCoord
    rw [dif_neg (by decide), dif_pos (by decide), Nat.zero_add]
    rfl

variable (x1 : (⟨S4x4096, .i32⟩ : BufTy).Contents (Elt Ideal)) (ht : ∀ i, x1 i = 0#32 ∨ x1 i = 1#32)
include ht

/-- The word by which a token's type is looked up is the type itself. -/
theorem type_word (i : S4x4096x1.Idx) : val_main_call1_v5 (F := Ideal) x1 i = x1 (idx_main_call1_v5 i) := by
  rw [val_main_call1_v5_apply, val_main_call1_v4_apply, val_main_call1_v1_apply, val_main_call1_v0_apply, val_main_call1_c_apply]
  rcases ht (idx_main_call1_v5 i) with e | e <;> rw [e] <;> exact select_zero _ _

/-- Every type is found in range. -/
theorem type_mask (i : S4x4096x1.Idx) : val_main_call1_v11 (F := Ideal) x1 i = 1#1 := by
  rw [val_main_call1_v11_apply, val_main_call1_v7_apply, val_main_call1_v10_apply, type_word x1 ht, val_main_call1_v6_apply,
    val_main_call1_c_2_apply, val_main_call1_v9_apply, val_main_call1_v8_apply, val_main_call1_c_1_apply]
  rcases ht (idx_main_call1_v5 i) with e | e <;> rw [e] <;> rfl

/-- So each token gets row 1 of the table of types if its type is 1, and else row 0. -/
theorem type_row (x4 : (⟨S2x1024, .f32⟩ : BufTy).Contents (Elt Ideal)) (b : Fin 4) (s : Fin 4096) (h : Fin 1024) :
    val_main_v4 (F := Ideal) x1 x4 (ix3 b s h)
      = Scalar.select (IntOp.cmpi .eq (x1 (ix2 b s)) 1#32) (x4 (ix2 1 h)) (x4 (ix2 0 h)) := by
  have hm : val_main_call1_v12 (F := Ideal) x1 (idx_main_call1_v14 (ix3 b s h)) = 1#1 :=
    Host.reduce_andi_one _ _ _ _ _ rfl (type_mask x1 ht)
  have hw : val_main_call1_v5 (F := Ideal) x1 (ix3 b s 0) = x1 (ix2 b s) :=
    (type_word x1 ht _).trans (congrArg x1 (funext fun a => match a with | ⟨0, _⟩ => rfl | ⟨1, _⟩ => rfl))
  rw [val_main_v4_apply, val_main_call1_v14_apply, hm, select_one]
  unfold val_main_call1_v13
  rcases ht (ix2 b s) with e | e
  · rw [gather_types x4 _ b s h 0 (hw.trans e), e]
    exact (select_zero _ _).symm
  · rw [gather_types x4 _ b s h 1 (hw.trans e), e]
    exact (select_one _ _).symm

end Cert.ReferenceIdeal.Lookup

end
-- ==== Proof.Ref.lean ====
/- The reference's result read at an index: a token's row of summed embeddings normalised in two passes, scaled and
   shifted. -/
module

public import proofs.«01_k».proof.Proof.Lookup
public import proofs.«01_k».proof.Proof.LayerNorm

@[expose] public section

noncomputable section

namespace Cert.ReferenceIdeal.Ref

open Cert.ReferenceIdeal Cert.ReferenceIdeal.Gen Cert.ReferenceIdeal.Read Cert.LayerNorm Idealize.ShloMosaic
  Idealize.ShloMosaic.ValueIdx
open scoped BigOperators

variable (x0 : (⟨S4x4096x30, .f32⟩ : BufTy).Contents (Elt Ideal)) (x1 : (⟨S4x4096, .i32⟩ : BufTy).Contents (Elt Ideal))
  (x2 : (⟨S30x1024, .f32⟩ : BufTy).Contents (Elt Ideal)) (x3 : (⟨S40000x1024, .f32⟩ : BufTy).Contents (Elt Ideal))
  (x4 : (⟨S2x1024, .f32⟩ : BufTy).Contents (Elt Ideal)) (x5 x6 : (⟨S1024, .f32⟩ : BufTy).Contents (Elt Ideal))

/-- The row of summed embeddings of token `s` of sequence `b`. -/
def tokenRow (b : Fin 4) (s : Fin 4096) : Fin 1024 → EReal :=
  row (fun k => x0 (ix3 b s k)) (fun k h => x2 (ix2 k h)) (fun h => x3 (ix2 ⟨s.val, by omega⟩ h))
    (fun h => Scalar.select (IntOp.cmpi .eq (x1 (ix2 b s)) 1#32) (x4 (ix2 1 h)) (x4 (ix2 0 h)))

section Rows

variable (ht : ∀ i, x1 i = 0#32 ∨ x1 i = 1#32) (b : Fin 4) (s : Fin 4096)
include ht

/-- The summed embeddings. -/
theorem sum_apply (h : Fin 1024) :
    val_main_v7 (F := Ideal) x0 x1 x2 x3 x4 (ix3 b s h) = tokenRow x0 x1 x2 x3 x4 b s h := by
  have e3 : idx_main_v3 (idx_main_v5 (ix3 b s h)) = ix2 s h := funext fun a => match a with | ⟨0, _⟩ => rfl | ⟨1, _⟩ => rfl
  have el : ∀ k, lidx_main_v1 (ix3 b s h) k = ix3 b s k := fun k =>
    funext fun a => match a with | ⟨0, _⟩ => rfl | ⟨1, _⟩ => rfl | ⟨2, _⟩ => rfl
  have er : ∀ k, ridx_main_v1 (ix3 b s h) k = ix2 k h := fun k => funext fun a => match a with | ⟨0, _⟩ => rfl | ⟨1, _⟩ => rfl
  rw [val_main_v7_apply, val_main_v6_apply, val_main_v1_apply, val_main_v5_apply, val_main_v3_apply, e3, Lookup.position_row,
    Lookup.type_row x1 ht]
  simp only [el, er]
  rfl

/-- The mean of a row, under a unit axis. -/
theorem mean_apply :
    val_main_v11 (F := Ideal) x0 x1 x2 x3 x4 (ix3 b s 0)
      = Ideal.div (∑ k, tokenRow x0 x1 x2 x3 x4 b s k) (Ideal.ofBits .f32 0x44800000#32) := by
  have e : ∀ k, idx_main_v8 (idx_main_v9 (ix3 b s 0)) k = ix3 b s k := fun k =>
    funext fun a => match a with | ⟨0, _⟩ => rfl | ⟨1, _⟩ => rfl | ⟨2, _⟩ => rfl
  rw [val_main_v11_apply, val_main_v9_apply, val_main_v8_apply, val_main_v10_apply, val_main_cst_0_apply, val_main_cst_apply]
  simp only [e, sum_apply x0 x1 x2 x3 x4 ht]
  show Ideal.div (Ideal.ofBits .f32 0x00000000#32 + _) _ = _
  rw [Consts.ofBits_zero, zero_add]
  rfl

/-- The mean of the squared distances from it, under a unit axis. -/
theorem variance_apply :
    val_main_v18 (F := Ideal) x0 x1 x2 x3 x4 (ix3 b s 0)
      = Ideal.div (∑ k, (tokenRow x0 x1 x2 x3 x4 b s k - val_main_v11 (F := Ideal) x0 x1 x2 x3 x4 (ix3 b s 0))
          * (tokenRow x0 x1 x2 x3 x4 b s k - val_main_v11 (F := Ideal) x0 x1 x2 x3 x4 (ix3 b s 0)))
          (Ideal.ofBits .f32 0x44800000#32) := by
  have e : ∀ k, idx_main_v15 (idx_main_v16 (ix3 b s 0)) k = ix3 b s k := fun k =>
    funext fun a => match a with | ⟨0, _⟩ => rfl | ⟨1, _⟩ => rfl | ⟨2, _⟩ => rfl
  have e12 : ∀ k, idx_main_v12 (ix3 b s k) = ix3 b s 0 := fun k =>
    funext fun a => match a with | ⟨0, _⟩ => rfl | ⟨1, _⟩ => rfl | ⟨2, _⟩ => rfl
  rw [val_main_v18_apply, val_main_v16_apply, val_main_v15_apply, val_main_v17_apply, val_main_cst_2_apply, val_main_cst_1_apply]
  simp only [e, val_main_v14_apply, val_main_v13_apply, val_main_v12_apply, e12, sum_apply x0 x1 x2 x3 x4 ht]
  show Ideal.div (Ideal.ofBits .f32 0x00000000#32 + _) _ = _
  rw [Consts.ofBits_zero, zero_add]
  rfl

/-- The normalised row. -/
theorem normal_apply (h : Fin 1024) :
    val_main_v25 (F := Ideal) x0 x1 x2 x3 x4 (ix3 b s h) = twoPass (tokenRow x0 x1 x2 x3 x4 b s) h := by
  have e19 : idx_main_v19 (ix3 b s h) = ix3 b s 0 :=
    funext fun a => match a with | ⟨0, _⟩ => rfl | ⟨1, _⟩ => rfl | ⟨2, _⟩ => rfl
  have e24 : idx_main_v24 (ix3 b s h) = ix3 b s 0 :=
    funext fun a => match a with | ⟨0, _⟩ => rfl | ⟨1, _⟩ => rfl | ⟨2, _⟩ => rfl
  rw [val_main_v25_apply, val_main_v20_apply, val_main_v19_apply, e19, val_main_v24_apply, e24, val_main_v23_apply,
    val_main_v22_apply, val_main_v21_apply, val_main_cst_3_apply, variance_apply x0 x1 x2 x3 x4 ht, mean_apply x0 x1 x2 x3 x4 ht,
    sum_apply x0 x1 x2 x3 x4 ht]
  rfl

/-- The result, where the scale is 1 and the shift 0 throughout. -/
theorem result_apply (h5 : ∀ i, x5 i = 1) (h6 : ∀ i, x6 i = 0) (h : Fin 1024) :
    val_main_v31 (F := Ideal) x0 x1 x2 x3 x4 x5 x6 (ix3 b s h) = twoPass (tokenRow x0 x1 x2 x3 x4 b s) h := by
  rw [val_main_v31_apply, val_main_v28_apply, normal_apply x0 x1 x2 x3 x4 ht, val_main_v27_apply, val_main_v26_apply, h5,
    val_main_v30_apply, val_main_v29_apply, h6]
  show twoPass _ h * 1 + 0 = _
  rw [mul_one, add_zero]

end Rows

end Cert.ReferenceIdeal.Ref

end
-- ==== Proof.Pre.lean ====
/- What the precondition says of the arguments, entry by entry. -/
module

public import proofs.«01_k».proof.Proof.Gen.Pre_layer_inputs
public import proofs.«01_k».proof.Proof.Consts
public import Idealize.ShloMosaic.Lib.ReduceAll
public import Idealize.ShloMosaic.Lib.StableHlo.Predicate
public import Idealize.ShloMosaic.Lib.Pointwise

@[expose] public section

noncomputable section

namespace Cert.Pre_layer_inputs.Read

open Cert.Pre_layer_inputs Idealize.ShloMosaic

/-- An extended real whose absolute value is below `⊤` is a real. -/
theorem real_of_abs_lt (x : EReal) (h : FloatOps.cmpf (F := Ideal) (φ := .f32) .olt (max x (-x)) (Ideal.ofBits .f32 0x7F800000#32) = 1#1) :
    ∃ r : ℝ, x = (r : EReal) := by
  rw [Consts.ofBits_inf] at h
  induction x using EReal.rec with
  | bot => exact absurd h (by simp [Ideal.cmpf_def, Ideal.cmp])
  | top => exact absurd h (by simp [Ideal.cmpf_def, Ideal.cmp])
  | coe r => exact ⟨r, rfl⟩

/-- Two extended reals that compare equal are equal. -/
theorem eq_of_oeq (x y : EReal) (h : FloatOps.cmpf (F := Ideal) (φ := .f32) .oeq x y = 1#1) : x = y := by
  by_contra hn
  exact absurd h (by simp [Ideal.cmpf_def, Ideal.cmp, hn])

/-- Of two bits whose `or` is 1, one is 1. -/
theorem or_eq_one : ∀ a b : BitVec 1, IntOp.ori a b = 1#1 → a = 1#1 ∨ b = 1#1 := by decide

instance : Subsingleton S_.Idx := ⟨fun a b => funext fun k => k.elim0⟩

/-- Under the precondition the features, the projection, the first 4096 rows of the positions and the table of types are
    reals, each type is 0 or 1, the scale is 1 throughout and the shift 0. -/
theorem facts (x0 : FVec Ideal S4x4096x30 .f32) (x1 : IVec S4x4096 32) (x2 : FVec Ideal S30x1024 .f32)
    (x3 : FVec Ideal S40000x1024 .f32) (x4 : FVec Ideal S2x1024 .f32) (x5 x6 : FVec Ideal S1024 .f32)
    (h : fn (F := Ideal) x0 x1 x2 x3 x4 x5 x6 = fun _ => 1#1) :
    (∀ i, ∃ r : ℝ, x0 i = (r : EReal)) ∧ (∀ i, x1 i = 0#32 ∨ x1 i = 1#32) ∧ (∀ i, ∃ r : ℝ, x2 i = (r : EReal))
      ∧ (∀ (s : Fin 4096) (k : Fin 1024), ∃ r : ℝ, x3 (ix2 ⟨s.val, by omega⟩ k) = (r : EReal)) ∧ (∀ i, ∃ r : ℝ, x4 i = (r : EReal))
      ∧ (∀ i, x5 i = 1) ∧ ∀ i, x6 i = 0 := by
  have e := congrFun h ix0
  unfold fn fn_part1 fn_part2 at e
  dsimp only [andi] at e
  simp only [IntOp.andi_eq_one] at e
  obtain ⟨⟨⟨⟨⟨h0, h2⟩, h3⟩, h4⟩, h1⟩, h5, h6⟩ := e
  refine ⟨fun i => real_of_abs_lt _ (Host.reduce_andi_all _ _ _ _ _ h0 i), fun i => ?_,
    fun i => real_of_abs_lt _ (Host.reduce_andi_all _ _ _ _ _ h2 i), fun s k => ?_,
    fun i => real_of_abs_lt _ (Host.reduce_andi_all _ _ _ _ _ h4 i),
    fun i => (eq_of_oeq _ _ (Host.reduce_andi_all _ _ _ _ _ h5 i)).trans Consts.ofBits_one,
    fun i => (eq_of_oeq _ _ (Host.reduce_andi_all _ _ _ _ _ h6 i)).trans Consts.ofBits_zero⟩
  · exact (or_eq_one _ _ (Host.reduce_andi_all _ _ _ _ _ h1 i)).imp StableHlo.Predicate.cmpi_eq_iff.1
      StableHlo.Predicate.cmpi_eq_iff.1
  · have hs : extractStridedSlice S4096x1024 ![0, 0] x3 Facts.slices_S40000x1024_S4096x1024_0_0 (ix2 s k)
        = x3 (ix2 ⟨s.val, by omega⟩ k) := by
      pointwise
    rw [← hs]
    exact real_of_abs_lt _ (Host.reduce_andi_all _ _ _ _ _ h3 (ix2 s k))

end Cert.Pre_layer_inputs.Read

end
-- ==== Proof.Agree.lean ====
/- Where the precondition holds, the reference's result is the kernel's. -/
module

public import proofs.«01_k».proof.Proof.Array
public import proofs.«01_k».proof.Proof.Ref
public import proofs.«01_k».proof.Proof.Pre
public import Idealize.ShloMosaic.Lib.Pointwise.IndexBridge

@[expose] public section

noncomputable section

namespace Cert.KernelIdeal.Agree

open Cert.KernelIdeal Cert.KernelIdeal.Gen Cert.LayerNorm Idealize.ShloMosaic Idealize.ShloMosaic.TcCoe Idealize.SL.Sem

variable (m : (ℓ : Loc nD τ sig) → Buf (Elt Ideal) ℓ) (c : Dev nD)

/-- The two sides sum the same embeddings for a token. -/
theorem tokenRow_eq (b : Fin 4) (s : Fin 4096) :
    Cert.ReferenceIdeal.Ref.tokenRow (m ((c : Thread nD τ).loc main_arg0)) (m ((c : Thread nD τ).loc main_arg1))
      (m ((c : Thread nD τ).loc main_arg2)) (m ((c : Thread nD τ).loc main_arg3)) (m ((c : Thread nD τ).loc main_arg4)) b s
      = Array.tokenRow m c b s := by
  unfold Cert.ReferenceIdeal.Ref.tokenRow Array.tokenRow
  simp only [ix2_eq_valueIdx, ix3_eq_valueIdx]

variable (h : Cert.Pre_layer_inputs.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) = fun _ => 1#1)
include h

/-- Every entry of a token's row is a real. -/
theorem real_tokenRow (b : Fin 4) (s : Fin 4096) (k : Fin 1024) : ∃ r : ℝ, Array.tokenRow m c b s k = (r : EReal) := by
  obtain ⟨h0, -, h2, h3, h4, -⟩ := Cert.Pre_layer_inputs.Read.facts _ _ _ _ _ _ _ h
  refine real_row (fun _ => h0 _) (fun _ _ => h2 _) (fun _ => h3 s _) (fun _ => ?_) k
  unfold Scalar.select
  split
  · exact h4 _
  · exact h4 _

/-- The reference's result, of the kernel's arguments, is the kernel's. -/
theorem result_eq :
    Cert.ReferenceIdeal.Read.val_main_v31 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))
      = (dats m 0 c).arrAt 5 cfg0.N := by
  obtain ⟨-, h1, -, -, -, h5, h6⟩ := Cert.Pre_layer_inputs.Read.facts _ _ _ _ _ _ _ h
  rw [Array.result]
  funext i
  rw [ValueIdx.eq_ix3 i]
  exact (Cert.ReferenceIdeal.Ref.result_apply _ _ _ _ _ _ _ h1 (i 0) (i 1) h5 h6 (i 2)).trans
    ((congrFun (congrArg twoPass (tokenRow_eq m c (i 0) (i 1))) (i 2)).trans
      (onePass_eq_twoPass _ (real_tokenRow m c h (i 0) (i 1)) (i 2)).symm)

end Cert.KernelIdeal.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_layer_inputs
public import proofs.«01_k».proof.Proof.Agree
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference runs, from any memory, and leaves its arguments as they were and every counter at zero. -/
theorem reference_quiescent : Cert.quiescent_ReferenceIdeal (hReferenceIdeal := Cert.ReferenceIdeal.Gen.facts) := by
  intro m g _
  exact θ_run_mono (Cert.ReferenceIdeal.Value.run m g) fun r hr => ⟨fun c => (hr c).2, sem_eq_zero_of_no_sems (by decide) r.2⟩

/-- The kernel's result is the reference's where the precondition holds. -/
theorem algebraic : Cert.algebraic_KernelIdeal_ReferenceIdeal_pre_layer_inputs
    (hKernelIdeal := Cert.KernelIdeal.Gen.facts) (hReferenceIdeal := Cert.ReferenceIdeal.Gen.facts)
    (hPre_layer_inputs := Cert.Pre_layer_inputs.Gen.facts) := by
  intro m g m' g' hpre hagree
  refine ⟨fun c => (Cert.KernelIdeal.Gen.dats m 0 c).arrAt 5 Cert.KernelIdeal.cfg0.N,
    Cert.KernelIdeal.Value.run_blocks m g,
    θ_run_mono (Cert.ReferenceIdeal.Value.run m' g') fun r hr c => ⟨(hr c).1.trans ?_, (hr c).2⟩⟩
  obtain ⟨e0, e1, e2, e3, e4, e5, e6⟩ := hagree c
  rw [Cert.ReferenceIdeal.Read.val_main_v31_eq m' c, e0, e1, e2, e3, e4, e5, e6]
  exact Cert.KernelIdeal.Agree.result_eq m c (hpre c)

/-- Everything the certificate claims. -/
theorem claim : Cert.Claim :=
  ⟨Cert.Kernel.Gen.facts, Cert.KernelIdeal.Gen.facts, Cert.ReferenceIdeal.Gen.facts, Cert.Pre_layer_inputs.Gen.facts,
    fun m g _ => Cert.Kernel.Gen.frame m g, fun m g _ => Cert.KernelIdeal.Gen.frame m g,
    fun m g _ => Cert.KernelIdeal.Gen.frame m g, reference_quiescent, fun m g _ => reference_quiescent m g trivial, trivial,
    algebraic⟩

end Cert.Proof

end
